-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_connected [hPre_finite_and_connected : Cert.Pre_finite_and_connected.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_connected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_connected [hPre_finite_and_connected : Cert.Pre_finite_and_connected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_connected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_connected [hKernelIdeal : Cert.KernelIdeal.Facts] [hPre_finite_and_connected : Cert.Pre_finite_and_connected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_connected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_connected [hReferenceIdeal : Cert.ReferenceIdeal.Facts] [hPre_finite_and_connected : Cert.Pre_finite_and_connected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_connected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_and_connected [hKernelIdeal : Cert.KernelIdeal.Facts] [hReferenceIdeal : Cert.ReferenceIdeal.Facts] [hPre_finite_and_connected : Cert.Pre_finite_and_connected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_connected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_connected : Cert.Pre_finite_and_connected.Facts),
    quiescent_Kernel (hKernel := hKernel)
    ∧ quiescent_KernelIdeal (hKernelIdeal := hKernelIdeal)
    ∧ quiescent_KernelIdeal_pre_finite_and_connected (hKernelIdeal := hKernelIdeal) (hPre_finite_and_connected := hPre_finite_and_connected)
    ∧ quiescent_ReferenceIdeal (hReferenceIdeal := hReferenceIdeal)
    ∧ quiescent_ReferenceIdeal_pre_finite_and_connected (hReferenceIdeal := hReferenceIdeal) (hPre_finite_and_connected := hPre_finite_and_connected)
    ∧ preserves_Kernel_KernelIdeal
    ∧ algebraic_KernelIdeal_ReferenceIdeal_pre_finite_and_connected (hKernelIdeal := hKernelIdeal) (hReferenceIdeal := hReferenceIdeal) (hPre_finite_and_connected := hPre_finite_and_connected)
-- ==== Pre_finite_and_connected.lean ====
abbrev S8192x128 : Shape := ⟨2, ![8192, 128]⟩
abbrev S8192x8192 : Shape := ⟨2, ![8192, 8192]⟩
abbrev S8192 : Shape := ⟨1, ![8192]⟩
abbrev S128x128 : Shape := ⟨2, ![128, 128]⟩
abbrev S256x1 : Shape := ⟨2, ![256, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)

variable [Facts]

def fn_part1 {F : FTy → Type} [FloatOps F] (main_v13 : IVec S_ 1) (main_v15 : IVec S8192x8192 1) (main_c_5 : IVec S_ 1) : IVec S8192 1 :=
  let main_v16 : IVec S8192 1 := (fun x v => Host.reduce IntOp.ori x v reducesTo_S8192x8192_S8192_d1 h_S_) main_v15 main_c_5
  let main_v17 : IVec S8192 1 := broadcastInDim S8192 ![] bcast_S_S8192 main_v13
  let main_v18 : IVec S8192 1 := andi main_v17 main_v16
  main_v18

def fn {F : FTy → Type} [FloatOps F] (main_arg0 : FVec F S8192x128 .f32) (main_arg1 : FVec F S8192x8192 .f32) (main_arg2 : FVec F S8192 .f32) (main_arg3 : FVec F S128x128 .f32) (main_arg4 : FVec F S256x1 .f32) : IVec S8192 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg4
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_cst_4 : FVec F S_ .f32 := constant S_ .f32 0x00000000#32
  let main_v14 : FVec F S8192x8192 .f32 := broadcastInDim S8192x8192 ![] bcast_S_S8192x8192 main_cst_4
  let main_v15 : IVec S8192x8192 1 := cmpf .ogt main_arg1 main_v14
  let main_c_5 : IVec S_ 1 := constantI S_ 1 0#1
  fn_part1 (F := F) main_v13 main_v15 main_c_5
-- ==== Kernel.lean ====
abbrev S8192x128 : Shape := ⟨2, ![8192, 128]⟩
abbrev S8192x8192 : Shape := ⟨2, ![8192, 8192]⟩
abbrev S8192 : Shape := ⟨1, ![8192]⟩
abbrev S128x128 : Shape := ⟨2, ![128, 128]⟩
abbrev S256x1 : Shape := ⟨2, ![256, 1]⟩
abbrev S8192x256 : Shape := ⟨2, ![8192, 256]⟩
abbrev S8192x1 : Shape := ⟨2, ![8192, 1]⟩
abbrev S1024x128 : Shape := ⟨2, ![1024, 128]⟩
abbrev S1024x256 : Shape := ⟨2, ![1024, 256]⟩
abbrev S1024x1 : Shape := ⟨2, ![1024, 1]⟩
abbrev S1024x127 : Shape := ⟨2, ![1024, 127]⟩
abbrev S128x1 : Shape := ⟨2, ![128, 1]⟩
abbrev S1x8192 : Shape := ⟨2, ![1, 8192]⟩
abbrev S512x1 : Shape := ⟨2, ![512, 1]⟩
abbrev S512x8192 : Shape := ⟨2, ![512, 8192]⟩
abbrev S512x128 : Shape := ⟨2, ![512, 128]⟩
abbrev S512x256 : Shape := ⟨2, ![512, 256]⟩

abbrev nBuf : Space → Nat
  | .hbm => 13
  | .vmem => 25
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192, .f32⟩
  | .hbm, ⟨3, _⟩ => ⟨S128x128, .f32⟩
  | .hbm, ⟨4, _⟩ => ⟨S256x1, .f32⟩
  | .hbm, ⟨5, _⟩ => ⟨S8192x256, .bf16⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S1x8192, .f32⟩
  | .hbm, ⟨12, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S256x1, .f32⟩
  | .local _ .vmem, ⟨4, _⟩ => ⟨S1024x256, .bf16⟩
  | .local _ .vmem, ⟨5, _⟩ => ⟨S1024x256, .bf16⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S1x8192, .f32⟩
  | .local _ .vmem, ⟨19, _⟩ => ⟨S1x8192, .f32⟩
  | .local _ .vmem, ⟨20, _⟩ => ⟨S512x8192, .f32⟩
  | .local _ .vmem, ⟨21, _⟩ => ⟨S512x8192, .f32⟩
  | .local _ .vmem, ⟨22, _⟩ => ⟨S8192x256, .bf16⟩
  | .local _ .vmem, ⟨23, _⟩ => ⟨S512x128, .f32⟩
  | .local _ .vmem, ⟨24, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8192x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x128 : Shape := ⟨2, ![8192, 128]⟩
abbrev S8192x8192 : Shape := ⟨2, ![8192, 8192]⟩
abbrev S8192 : Shape := ⟨1, ![8192]⟩
abbrev S128x128 : Shape := ⟨2, ![128, 128]⟩
abbrev S256x1 : Shape := ⟨2, ![256, 1]⟩
abbrev S1x8192x128 : Shape := ⟨3, ![1, 8192, 128]⟩
abbrev S1x8192x8192 : Shape := ⟨3, ![1, 8192, 8192]⟩
abbrev S128x1 : Shape := ⟨2, ![128, 1]⟩
abbrev S1x8192x1 : Shape := ⟨3, ![1, 8192, 1]⟩
abbrev S1x1x8192 : Shape := ⟨3, ![1, 1, 8192]⟩
abbrev S_ : Shape := ⟨0, ![]⟩
abbrev S1x8192 : Shape := ⟨2, ![1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192, .f32⟩
  | .hbm, ⟨3, _⟩ => ⟨S128x128, .f32⟩
  | .hbm, ⟨4, _⟩ => ⟨S256x1, .f32⟩
  | .hbm, ⟨5, _⟩ => ⟨S1x8192x128, .f32⟩
  | .hbm, ⟨6, _⟩ => ⟨S1x8192x8192, .f32⟩
  | .hbm, ⟨7, _⟩ => ⟨S1x8192x128, .f32⟩
  | .hbm, ⟨8, _⟩ => ⟨S128x1, .f32⟩
  | .hbm, ⟨9, _⟩ => ⟨S128x1, .f32⟩
  | .hbm, ⟨10, _⟩ => ⟨S1x8192x1, .f32⟩
  | .hbm, ⟨11, _⟩ => ⟨S1x8192x1, .f32⟩
  | .hbm, ⟨12, _⟩ => ⟨S1x1x8192, .f32⟩
  | .hbm, ⟨13, _⟩ => ⟨S1x8192x8192, .f32⟩
  | .hbm, ⟨14, _⟩ => ⟨S1x8192x8192, .f32⟩
  | .hbm, ⟨15, _⟩ => ⟨S1x8192x8192, .f32⟩
  | .hbm, ⟨16, _⟩ => ⟨S_, .f32⟩
  | .hbm, ⟨17, _⟩ => ⟨S_, .f32⟩
  | .hbm, ⟨18, _⟩ => ⟨S1x8192x8192, .f32⟩
  | .hbm, ⟨19, _⟩ => ⟨S1x8192x8192, .i1⟩
  | .hbm, ⟨20, _⟩ => ⟨S_, .f32⟩
  | .hbm, ⟨21, _⟩ => ⟨S1x8192x8192, .f32⟩
  | .hbm, ⟨22, _⟩ => ⟨S1x8192x8192, .f32⟩
  | .hbm, ⟨23, _⟩ => ⟨S1x8192x8192, .f32⟩
  | .hbm, ⟨24, _⟩ => ⟨S_, .f32⟩
  | .hbm, ⟨25, _⟩ => ⟨S1x8192x8192, .f32⟩
  | .hbm, ⟨26, _⟩ => ⟨S1x8192x8192, .i1⟩
  | .hbm, ⟨27, _⟩ => ⟨S_, .f32⟩
  | .hbm, ⟨28, _⟩ => ⟨S_, .f32⟩
  | .hbm, ⟨29, _⟩ => ⟨S1x8192x8192, .f32⟩
  | .hbm, ⟨30, _⟩ => ⟨S1x8192x8192, .f32⟩
  | .hbm, ⟨31, _⟩ => ⟨S_, .f32⟩
  | .hbm, ⟨32, _⟩ => ⟨S1x8192, .f32⟩
  | .hbm, ⟨33, _⟩ => ⟨S_, .f32⟩
  | .hbm, ⟨34, _⟩ => ⟨S1x8192, .f32⟩
  | .hbm, ⟨35, _⟩ => ⟨S1x8192, .f32⟩
  | .hbm, ⟨36, _⟩ => ⟨S1x8192x1, .f32⟩
  | .hbm, ⟨37, _⟩ => ⟨S1x8192x8192, .f32⟩
  | .hbm, ⟨38, _⟩ => ⟨S1x8192x8192, .f32⟩
  | .hbm, ⟨39, _⟩ => ⟨S1x8192x8192, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S1x8192x8192, .f32⟩
  | .hbm, ⟨44, _⟩ => ⟨S1x8192x8192, .f32⟩
  | .hbm, ⟨45, _⟩ => ⟨S8192x8192, .f32⟩
  | .hbm, ⟨46, _⟩ => ⟨S8192x128, .f32⟩
  | .hbm, ⟨47, _⟩ => ⟨S8192x128, .f32⟩
  | .hbm, ⟨48, _⟩ => ⟨S1x8192x128, .f32⟩
  | .hbm, ⟨49, _⟩ => ⟨S_, .f32⟩
  | .hbm, ⟨50, _⟩ => ⟨S1x8192x128, .f32⟩
  | .hbm, ⟨51, _⟩ => ⟨S1x8192x128, .f32⟩
  | .hbm, ⟨52, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_cst : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Proof.Run.lean ====
/- The kernel's run at the idealized arithmetic, with the result array: what the last of the two grids leaves in it. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each array that is not scoped at the contents computed at the last
    segment boundary: the launch is the one of the frame, and only what is read off the final state differs. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- Every execution of the kernel ends with the result array at what the second grid's blocks were written back as,
    and the arguments unchanged. -/
theorem run : θ_run defs (onTc (τ := τ) (main (F := F))) ⟨m, fun _ => 0, ρ⟩ (fun r => ∀ c : Dev nD,
      r.2.mem ((c.tc : Thread nD τ).loc main_v3) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (W3_arr m ρ c 6),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_boundary m ρ)

end Cert.KernelIdeal.Value

end
-- ==== Proof.Feature.lean ====
/- The quantities that both programs compute of the features, the weights and the attention vector: the projected
   features and each node's score as the source and as the target of an edge. -/
module

public import Idealize.ShloMosaic.Lib.Pipeline.ValueKit

@[expose] public section

noncomputable section

namespace Cert.Gat

open Idealize.ShloMosaic

/-- The shape of the features, and of the result. -/
abbrev SX : Shape := ⟨2, ![8192, 128]⟩
/-- The shape of the adjacency matrix. -/
abbrev SA : Shape := ⟨2, ![8192, 8192]⟩
/-- The shape of the weights. -/
abbrev SW : Shape := ⟨2, ![128, 128]⟩
/-- The shape of the attention vector. -/
abbrev SV : Shape := ⟨2, ![256, 1]⟩

/-- The slope below zero, as the kernel and the reference both write it: the real that the pattern denotes. -/
def slope : EReal := Ideal.ofBits .f32 0x3E4CCCCD#32

variable (x : FVec Ideal SX .f32) (w : FVec Ideal SW .f32) (a : FVec Ideal SV .f32)

/-- Feature `k` of node `i` after the projection. -/
def proj (i : Fin 8192) (k : Fin 128) : EReal := ∑ q : Fin 128, (x (ix2 i q) : EReal) * (w (ix2 q k) : EReal)

/-- The score of node `i` as an edge's source: its projected features against the first half of the attention vector. -/
def src (i : Fin 8192) : EReal := ∑ k : Fin 128, proj x w i k * (a (ix2 ⟨k.val, by omega⟩ 0) : EReal)

/-- The score of node `j` as an edge's target: its projected features against the second half of the attention vector. -/
def dst (j : Fin 8192) : EReal := ∑ k : Fin 128, proj x w j k * (a (ix2 ⟨128 + k.val, by omega⟩ 0) : EReal)

/-- The weight that the kernel gives the edge from `i` to `j`: the greater of two products of powers of two where there
    is an edge, zero where there is none. -/
def kernelWeight (adj : FVec Ideal SA .f32) (i j : Fin 8192) : EReal :=
  if (0 : EReal) < adj (ix2 i j) then
    max (Ideal.exp2 (src x w a i * (((Real.log 2)⁻¹ : ℝ) : EReal)) * Ideal.exp2 (dst x w a j * (((Real.log 2)⁻¹ : ℝ) : EReal)))
      (Ideal.exp2 (slope * (src x w a i * (((Real.log 2)⁻¹ : ℝ) : EReal))) * Ideal.exp2 (slope * (dst x w a j * (((Real.log 2)⁻¹ : ℝ) : EReal))))
  else 0

/-- The kernel's result: the weighted sum of the projected features over the sum of the weights, zero where negative. -/
def kernelOut (adj : FVec Ideal SA .f32) (i : Fin 8192) (k : Fin 128) : EReal :=
  max (Ideal.div (∑ j : Fin 8192, kernelWeight x w a adj i j * proj x w j k) (∑ j : Fin 8192, kernelWeight x w a adj i j * 1)) 0

/-- A score as the reference passes it on: itself where not negative, the slope times it where negative. -/
def leak (t : EReal) : EReal := if 0 ≤ t then t else slope * t

/-- The reference's score of the edge from `i` to `j`: the leaky sum of the two scores where there is an edge, minus
    infinity where there is none. -/
def score (adj : FVec Ideal SA .f32) (i j : Fin 8192) : EReal :=
  if (0 : EReal) < adj (ix2 i j) then leak (src x w a i + dst x w a j) else ⊥

/-- The greatest score of row `i`. -/
def top (adj : FVec Ideal SA .f32) (i : Fin 8192) : EReal :=
  max ⊥ ((Finset.univ : Finset (Fin 8192)).fold max ⊥ fun j => score x w a adj i j)

/-- The softmax's numerator: the exponential of the score less the row's greatest. -/
def expo (adj : FVec Ideal SA .f32) (i j : Fin 8192) : EReal := Ideal.exp (score x w a adj i j - top x w a adj i)

/-- The reference's result: the features averaged by the softmax of the row's scores, zero where negative. -/
def refOut (adj : FVec Ideal SA .f32) (i : Fin 8192) (k : Fin 128) : EReal :=
  max (∑ j : Fin 8192, Ideal.div (expo x w a adj i j) (∑ l : Fin 8192, expo x w a adj i l) * proj x w j k) 0

end Cert.Gat

end
-- ==== Proof.Project.lean ====
/- What the first grid leaves in its five arrays. -/
module

public import proofs.«01_k».proof.Proof.Gen.KernelIdeal.Frame
public import proofs.«01_k».proof.Proof.Feature

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- Where the blocks of the first grid's windows lie, at every point: the features' and the five results' windows move
    down by one block of rows a point, the weights and the attention vector are whole. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The kernel's factor 1.44269502, named: one over the natural logarithm of two. -/
theorem log2e : Named.named (F := Ideal) κ "log2e" (φ := .f32) 0x3FB8AA3B#32 = (((Real.log 2)⁻¹ : ℝ) : EReal) :=
  IdealRules.named_const.ideal_named_scalar _ _ _ _ rfl

/-- Two to a power, at the extended reals. -/
theorem exp2_eq (v : EReal) : FloatOps.exp2 (F := Ideal) (φ := .f32) v = Ideal.exp2 v := rfl

/-- A column holding a function of each row's number. -/
def column (f : Fin 8192 → EReal) : FVec Ideal S8192x1 .f32 := fun i => f (i 0)

/-- The projected features, then a column of ones, then zeros. -/
def augmented (h : Fin 8192 → Fin 128 → EReal) : FVec Ideal S8192x256 .bf16 := fun i =>
  if hk : (i 1).val < 128 then h (i 0) ⟨(i 1).val, hk⟩ else if (i 1).val = 128 then 1 else 0

variable (V : (c : Dev nD) → (b : Ref sig .tc) → Buf (Elt Ideal) ((c : Thread nD τ).loc b))

/-- The first column: two to the power of the scaled source score. -/
theorem e1_final (c : Dev nD) : (dat0 (F := Ideal) V c).arrAt 4 cfg0.N
    = column fun i => Ideal.exp2 (Gat.src (V c main_arg0) (V c main_arg3) (V c main_arg4) i * (((Real.log 2)⁻¹ : ℝ) : EReal)) := by
  refine (dat0 V c).arrAt_eq_of_covers 4 _ (by decide +kernel) fun t _ y => ?_
  blk_simp
  rw [after0_4]
  unfold outsAt0
  frame_out
  pointwise [k0_pay8, k0_pay6, k0_pay2, column, Gat.src, Gat.proj, log2e, exp2_eq]
  blk_point [iblk0, idx0 t]

/-- The second column: two to the power of the scaled source score times the slope. -/
theorem e2_final (c : Dev nD) : (dat0 (F := Ideal) V c).arrAt 5 cfg0.N
    = column fun i => Ideal.exp2 (Gat.slope *
        (Gat.src (V c main_arg0) (V c main_arg3) (V c main_arg4) i * (((Real.log 2)⁻¹ : ℝ) : EReal))) := by
  refine (dat0 V c).arrAt_eq_of_covers 5 _ (by decide +kernel) fun t _ y => ?_
  blk_simp
  rw [after0_5]
  unfold outsAt0
  frame_out
  pointwise [k0_pay9, k0_pay6, k0_pay2, column, Gat.src, Gat.proj, log2e, Gat.slope, exp2_eq]
  blk_point [iblk0, idx0 t]

/-- The third column: two to the power of the scaled target score. -/
theorem f1_final (c : Dev nD) : (dat0 (F := Ideal) V c).arrAt 6 cfg0.N
    = column fun i => Ideal.exp2 (Gat.dst (V c main_arg0) (V c main_arg3) (V c main_arg4) i * (((Real.log 2)⁻¹ : ℝ) : EReal)) := by
  refine (dat0 V c).arrAt_eq_of_covers 6 _ (by decide +kernel) fun t _ y => ?_
  blk_simp
  rw [after0_6]
  unfold outsAt0
  frame_out
  pointwise [k0_pay10, k0_pay7, k0_pay2, column, Gat.dst, Gat.proj, log2e, exp2_eq]
  blk_point [iblk0, idx0 t]

/-- The fourth column: two to the power of the scaled target score times the slope. -/
theorem f2_final (c : Dev nD) : (dat0 (F := Ideal) V c).arrAt 7 cfg0.N
    = column fun i => Ideal.exp2 (Gat.slope *
        (Gat.dst (V c main_arg0) (V c main_arg3) (V c main_arg4) i * (((Real.log 2)⁻¹ : ℝ) : EReal))) := by
  refine (dat0 V c).arrAt_eq_of_covers 7 _ (by decide +kernel) fun t _ y => ?_
  blk_simp
  rw [after0_7]
  unfold outsAt0
  frame_out
  pointwise [k0_pay1, k0_pay7, k0_pay2, column, Gat.dst, Gat.proj, log2e, Gat.slope, exp2_eq]
  blk_point [iblk0, idx0 t]

end Cert.KernelIdeal.Value

end
-- ==== Proof.Augmented.lean ====
/- The augmented features that the first grid leaves: the features, a column of ones, zeros. -/
module

public import proofs.«01_k».proof.Proof.Project

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The augmented features left of column 128 are the features. -/
theorem augmented_feature (h : Fin 8192 → Fin 128 → EReal) (i : S8192x256.Idx) (hk : (i 1).val < 128) :
    augmented h i = h (i 0) ⟨(i 1).val, hk⟩ := dif_pos hk

/-- Column 128 of the augmented features is one. -/
theorem augmented_one (h : Fin 8192 → Fin 128 → EReal) (i : S8192x256.Idx) (hk : (i 1).val = 128) :
    augmented h i = (1 : EReal) := by
  unfold augmented; rw [dif_neg (by omega), if_pos hk]

/-- Right of column 128 the augmented features are zero. -/
theorem augmented_zero (h : Fin 8192 → Fin 128 → EReal) (i : S8192x256.Idx) (hk : 128 < (i 1).val) :
    augmented h i = (0 : EReal) := by
  unfold augmented; rw [dif_neg (by omega), if_neg (by omega)]

variable (V : (c : Dev nD) → (b : Ref sig .tc) → Buf (Elt Ideal) ((c : Thread nD τ).loc b))

/-- The augmented features: what the second grid multiplies by, the sum of the weights falling out of its column of ones. -/
theorem hb_final (c : Dev nD) : (dat0 (F := Ideal) V c).arrAt 3 cfg0.N
    = augmented (Gat.proj (V c main_arg0) (V c main_arg3)) := by
  refine (dat0 V c).arrAt_eq_of_covers 3 _ (by decide +kernel) fun t _ y => ?_
  blk_simp
  rw [after0_3]
  unfold outsAt0
  frame_out
  canon_tiles z h using (View.cover_of_tiledBy _ ![1024, 1] (by sl_kernel_rfl) y)
  · have e1 : ((((View.whole main_v0_0).slice (win0_3.rect t)).emb y 1 : Fin _) : ℕ) = (y 1).val := by blk_simp [idx0 t]
    rw [augmented_zero _ _ (by omega)]
    pointwise [k0_pay5]
  · have e1 : ((((View.whole main_v0_0).slice (win0_3.rect t)).emb y 1 : Fin _) : ℕ) = (y 1).val := by blk_simp [idx0 t]
    rw [augmented_one _ _ (by omega)]
    pointwise [k0_pay4]
  · have e1 : ((((View.whole main_v0_0).slice (win0_3.rect t)).emb y 1 : Fin _) : ℕ) = (y 1).val := by blk_simp [idx0 t]
    rw [augmented_feature _ _ (by omega)]
    pointwise [k0_pay3, k0_pay2, Gat.proj]
    blk_point [iblk0, idx0 t]

end Cert.KernelIdeal.Value

end
-- ==== Proof.Attend.lean ====
/- What the second grid leaves in the result array. -/
module

public import proofs.«01_k».proof.Proof.Gen.KernelIdeal.Frame
public import proofs.«01_k».proof.Proof.Project

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- Where the blocks of the second grid's windows lie, at every point: the rows' exponentials, the adjacency rows and the
    result move down by one block of rows a point, the columns' exponentials and the augmented features are whole. -/
theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![0, 0] ∧ win1_6.index t = ![t.val, 0] :=
  (by decide +kernel : ∀ t : Fin grid1.N, _)

/-- The weight of the edge from `i` to `j`: the greater of the two products of exponentials where there is an edge,
    zero where there is none. -/
def weight (e1 e2 : FVec Ideal S8192x1 .f32) (f1 f2 : FVec Ideal S1x8192 .f32) (adj : FVec Ideal S8192x8192 .f32)
    (i j : Fin 8192) : EReal :=
  if (0 : EReal) < adj (ix2 i j) then
    max ((e1 (ix2 i 0) : EReal) * (f1 (ix2 0 j) : EReal)) ((e2 (ix2 i 0) : EReal) * (f2 (ix2 0 j) : EReal)) else 0

/-- The weighted sum of the features over the sum of the weights, and zero where that is negative. -/
def attended (e1 e2 : FVec Ideal S8192x1 .f32) (f1 f2 : FVec Ideal S1x8192 .f32) (adj : FVec Ideal S8192x8192 .f32)
    (hb : FVec Ideal S8192x256 .bf16) : FVec Ideal S8192x128 .f32 := fun i =>
  max (Ideal.div (∑ j : Fin 8192, weight e1 e2 f1 f2 adj (i 0) j * (hb (ix2 j ⟨(i 1).val, by have := (i 1).isLt; simp at this; omega⟩) : EReal))
    (∑ j : Fin 8192, weight e1 e2 f1 f2 adj (i 0) j * (hb (ix2 j 128) : EReal))) 0

variable (V : (c : Dev nD) → (b : Ref sig .tc) → Buf (Elt Ideal) ((c : Thread nD τ).loc b))

/-- What the second grid leaves in the result array, of the arrays it finds. -/
theorem attended_final (c : Dev nD) : (dat1 (F := Ideal) V c).arrAt 6 cfg1.N
    = attended (V c main_v0_1) (V c main_v0_2) (V c main_v1) (V c main_v2) (V c main_arg1) (V c main_v0_0) := by
  refine (dat1 V c).arrAt_eq_of_covers 6 _ (by decide +kernel) fun t _ y => ?_
  blk_simp
  rw [after1_6]
  frame_out
  pointwise [k1_pay1, attended, weight]
  blk_point [iblk1, idx1 t]

end Cert.KernelIdeal.Value

end
-- ==== Proof.KernelValue.lean ====
/- The kernel's result array as one function of the arguments: the two grids and the two reshapes between them. -/
module

public import proofs.«01_k».proof.Proof.Augmented
public import proofs.«01_k».proof.Proof.Attend

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A column laid as a row: entry `j` of the row is entry `j` of the column. -/
theorem row_of_column (f : Fin 8192 → EReal) :
    shapeCast S1x8192 (column f) shapeCasts_S8192x1_S1x8192 = fun j : S1x8192.Idx => f (j 1) := by
  funext j
  pointwise [column]

/-- The target scores' exponentials laid as a row, between the grids. -/
theorem f1_row (c : Dev nD) : V2 m ρ c main_v1 = shapeCast S1x8192 (V1 m ρ c main_v0_3) shapeCasts_S8192x1_S1x8192 := by
  show StableHlo.after hostOps1 (W1 m ρ c) _ = _
  after_results_simp
  rfl

/-- The target scores' exponentials times the slope laid as a row, between the grids. -/
theorem f2_row (c : Dev nD) : V2 m ρ c main_v2 = shapeCast S1x8192 (V1 m ρ c main_v0_4) shapeCasts_S8192x1_S1x8192 := by
  show StableHlo.after hostOps1 (W1 m ρ c) _ = _
  after_results_simp
  rfl

/-- What the second grid finds in the array that the first left its source exponentials in. -/
theorem entry_e1 (c : Dev nD) : V2 m ρ c main_v0_1 = (dat0 (V0 m ρ) c).arrAt 4 cfg0.N :=
  (W2_of m ρ c main_v0_1 (by decide)).trans (W1_arr m ρ c 4)
/-- The same of the source exponentials times the slope. -/
theorem entry_e2 (c : Dev nD) : V2 m ρ c main_v0_2 = (dat0 (V0 m ρ) c).arrAt 5 cfg0.N :=
  (W2_of m ρ c main_v0_2 (by decide)).trans (W1_arr m ρ c 5)
/-- The same of the augmented features. -/
theorem entry_hb (c : Dev nD) : V2 m ρ c main_v0_0 = (dat0 (V0 m ρ) c).arrAt 3 cfg0.N :=
  (W2_of m ρ c main_v0_0 (by decide)).trans (W1_arr m ρ c 3)

/-- What the second grid finds in the row of target exponentials. -/
theorem entry_f1 (c : Dev nD) : V2 m ρ c main_v1 = fun j : S1x8192.Idx =>
    Ideal.exp2 (Gat.dst (m ((c : Thread nD τ).loc main_arg0)) (m ((c : Thread nD τ).loc main_arg3)) (m ((c : Thread nD τ).loc main_arg4)) (j 1)
      * (((Real.log 2)⁻¹ : ℝ) : EReal)) :=
  (f1_row m ρ c).trans ((congrArg (fun h => shapeCast S1x8192 h shapeCasts_S8192x1_S1x8192) ((W1_arr m ρ c 6).trans (f1_final (V0 m ρ) c))).trans
    (row_of_column _))

/-- What the second grid finds in the row of target exponentials times the slope. -/
theorem entry_f2 (c : Dev nD) : V2 m ρ c main_v2 = fun j : S1x8192.Idx =>
    Ideal.exp2 (Gat.slope * (Gat.dst (m ((c : Thread nD τ).loc main_arg0)) (m ((c : Thread nD τ).loc main_arg3)) (m ((c : Thread nD τ).loc main_arg4)) (j 1)
      * (((Real.log 2)⁻¹ : ℝ) : EReal))) :=
  (f2_row m ρ c).trans ((congrArg (fun h => shapeCast S1x8192 h shapeCasts_S8192x1_S1x8192) ((W1_arr m ρ c 7).trans (f2_final (V0 m ρ) c))).trans
    (row_of_column _))

/-- The kernel's result, element by element, of the argument arrays. -/
theorem kernel_value (c : Dev nD) : (dat1 (V2 m ρ) c).arrAt 6 cfg1.N = fun i : S8192x128.Idx =>
    Gat.kernelOut (m ((c : Thread nD τ).loc main_arg0)) (m ((c : Thread nD τ).loc main_arg3)) (m ((c : Thread nD τ).loc main_arg4))
      (m ((c : Thread nD τ).loc main_arg1)) (i 0) (i 1) := by
  rw [attended_final, entry_f1, entry_f2, entry_e1, entry_e2, entry_hb,
    show V2 m ρ c main_arg1 = _ from W2_args m ρ c main_arg1 (by decide), e1_final, e2_final, hb_final]
  funext i
  unfold attended weight
  have hf : ∀ x : Fin 8192, augmented (Gat.proj (V0 m ρ c main_arg0) (V0 m ρ c main_arg3)) (ix2 x ⟨(i 1).val, Nat.lt_trans (i 1).isLt (by decide)⟩)
      = Gat.proj (V0 m ρ c main_arg0) (V0 m ρ c main_arg3) x (i 1) := fun x => augmented_feature _ _ (i 1).isLt
  have ho : ∀ x : Fin 8192, augmented (Gat.proj (V0 m ρ c main_arg0) (V0 m ρ c main_arg3)) (ix2 x 128) = (1 : EReal) :=
    fun x => augmented_one _ _ rfl
  simp only [hf, ho]
  rfl

end Cert.KernelIdeal.Value

end
-- ==== Proof.RefValue.lean ====
/- The reference's result, element by element: each of its stages as an array, and what the stage holds at an index. -/
module

public import proofs.«01_k».proof.Proof.Gen.ReferenceIdeal.Run
public import proofs.«01_k».proof.Proof.Feature

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- The projected features, as the reference's first product leaves them. -/
def features (x : FVec Ideal S8192x128 .f32) (w : FVec Ideal S128x128 .f32) : FVec Ideal S1x8192x128 .f32 :=
  Host.dotGeneral dot_S1x8192x128_S128x128_S1x8192x128_2_0_01_1_n_n none (broadcastInDim S1x8192x128 ![1, 2] bcast_S8192x128_S1x8192x128_1_2 x) w

/-- The sums of source and target scores. -/
def sums (h : FVec Ideal S1x8192x128 .f32) (a : FVec Ideal S256x1 .f32) : FVec Ideal S1x8192x8192 .f32 :=
  addf (broadcastInDim S1x8192x8192 ![0, 1, 2] bcast_S1x8192x1_S1x8192x8192_0_1_2
      (Host.dotGeneral dot_S1x8192x128_S128x1_S1x8192x1_2_0_01_1_n_n none h (extractStridedSlice S128x1 ![0, 0] a slices_S256x1_S128x1_0_0)))
    (broadcastInDim S1x8192x8192 ![0, 1, 2] bcast_S1x1x8192_S1x8192x8192_0_1_2 (transpose S1x1x8192 [0, 2, 1]
      (Host.dotGeneral dot_S1x8192x128_S128x1_S1x8192x1_2_0_01_1_n_n none h (extractStridedSlice S128x1 ![128, 0] a slices_S256x1_S128x1_128_0))
      transposes_S1x8192x1_S1x1x8192_0_2_1))

/-- The leaky sums where there is an edge, minus infinity where there is none. -/
def scores (t : FVec Ideal S1x8192x8192 .f32) (adj : FVec Ideal S8192x8192 .f32) : FVec Ideal S1x8192x8192 .f32 :=
  select (cmpf .ogt (broadcastInDim S1x8192x8192 ![1, 2] bcast_S8192x8192_S1x8192x8192_1_2 adj)
      (broadcastInDim S1x8192x8192 ![] bcast_S_S1x8192x8192 (constant S_ .f32 0x00000000#32)))
    (select (cmpf .oge t (broadcastInDim S1x8192x8192 ![] bcast_S_S1x8192x8192 (constant S_ .f32 0x00000000#32))) t
      (mulf (broadcastInDim S1x8192x8192 ![] bcast_S_S1x8192x8192 (id (constant S_ .f32 0x3E4CCCCD#32))) t))
    (broadcastInDim S1x8192x8192 ![] bcast_S_S1x8192x8192 (id (constant S_ .f32 0xFF800000#32)))

/-- The rows reduced by the maximum. -/
def reduced (e : FVec Ideal S1x8192x8192 .f32) : FVec Ideal S1x8192 .f32 :=
  Host.reduce FloatOps.maximumf e (constant S_ .f32 0xFF800000#32) reducesTo_S1x8192x8192_S1x8192_d2 h_S_

/-- The greater of minus infinity and each row's reduction. -/
def tops (r : FVec Ideal S1x8192 .f32) : FVec Ideal S1x8192 .f32 :=
  maximumf (broadcastInDim S1x8192 ![] bcast_S_S1x8192 (constant S_ .f32 0xFF800000#32)) r

/-- The exponentials of the scores less the row's greatest. -/
def expos (e : FVec Ideal S1x8192x8192 .f32) (t : FVec Ideal S1x8192 .f32) : FVec Ideal S1x8192x8192 .f32 :=
  Host.exp (subf e (broadcastInDim S1x8192x8192 ![0, 1, 2] bcast_S1x8192x1_S1x8192x8192_0_1_2
    (broadcastInDim S1x8192x1 ![0, 1] bcast_S1x8192_S1x8192x1_0_1 t)))

/-- The exponentials over their row's sum. -/
def softmax (p : FVec Ideal S1x8192x8192 .f32) : FVec Ideal S1x8192x8192 .f32 :=
  Host.divf p (broadcastInDim S1x8192x8192 ![0, 1, 2] bcast_S1x8192x1_S1x8192x8192_0_1_2
    (broadcastInDim S1x8192x1 ![0, 1] bcast_S1x8192_S1x8192x1_0_1
      (Host.reduceAdd p (constant S_ .f32 0x00000000#32) reducesTo_S1x8192x8192_S1x8192_d2 h_S_)))

/-- The averages of the features, zero where negative. -/
def averages (p : FVec Ideal S1x8192x8192 .f32) (h : FVec Ideal S1x8192x128 .f32) : FVec Ideal S8192x128 .f32 :=
  shapeCast _ (maximumf (broadcastInDim S1x8192x128 ![1, 2] bcast_S8192x128_S1x8192x128_1_2
      (Host.dotGeneral dot_S8192x8192_S8192x128_S8192x128_1_0_0_1_n_n none (shapeCast _ p shapeCasts_S1x8192x8192_S8192x8192)
        (shapeCast _ h shapeCasts_S1x8192x128_S8192x128)))
    (broadcastInDim S1x8192x128 ![] bcast_S_S1x8192x128 (constant S_ .f32 0x00000000#32))) shapeCasts_S1x8192x128_S8192x128

/-- An entry of the projected features. -/
theorem features_at (x : FVec Ideal S8192x128 .f32) (w : FVec Ideal S128x128 .f32) (i : Fin 8192) (k : Fin 128) :
    (features x w (ix3 0 i k) : EReal) = Gat.proj x w i k := by
  pointwise [features, Gat.proj]

/-- An entry of the sums of scores. -/
theorem sums_at (h : FVec Ideal S1x8192x128 .f32) (a : FVec Ideal S256x1 .f32) (i j : Fin 8192) :
    (sums h a (ix3 0 i j) : EReal) = (∑ k : Fin 128, (h (ix3 0 i k) : EReal) * (a (ix2 ⟨k.val, by omega⟩ 0) : EReal))
      + ∑ k : Fin 128, (h (ix3 0 j k) : EReal) * (a (ix2 ⟨128 + k.val, by omega⟩ 0) : EReal) := by
  pointwise [sums]

/-- The pattern of minus infinity denotes it. -/
theorem minus_infinity : (Ideal.ofBits .f32 0xFF800000#32 : EReal) = ⊥ := by
  simp [Ideal.ofBits, Ideal.ieee]

/-- An entry of the masked scores. -/
theorem scores_at (t : FVec Ideal S1x8192x8192 .f32) (adj : FVec Ideal S8192x8192 .f32) (i j : Fin 8192) :
    (scores t adj (ix3 0 i j) : EReal) = if (0 : EReal) < adj (ix2 i j) then Gat.leak (t (ix3 0 i j)) else ⊥ := by
  pointwise [scores, Gat.leak, Gat.slope]
  have hb : (id (constant S_ .f32 0xFF800000#32 : FVec Ideal S_ .f32) ix0 : EReal) = ⊥ := minus_infinity
  rw [hb]
  rfl

/-- A row's index and a position in the row reduce to the row. -/
theorem drop_row (i j : Fin 8192) : reducesTo_S1x8192x8192_S1x8192_d2.drop (ix3 0 i j) = ix2 0 i := by
  funext b
  refine Fin.ext ?_
  fin_cases b
  · exact Shape.ReducesTo.drop_apply_val_of_eq reducesTo_S1x8192x8192_S1x8192_d2 (ix3 0 i j) 0 0
  · exact Shape.ReducesTo.drop_apply_val_of_eq reducesTo_S1x8192x8192_S1x8192_d2 (ix3 0 i j) 1 1

/-- An index that reduces to a row is the row's index and a position. -/
theorem eq_of_drop_row (i : Fin 8192) (p : S1x8192x8192.Idx) (h : reducesTo_S1x8192x8192_S1x8192_d2.drop p = ix2 0 i) :
    p = ix3 0 i (p 2) := by
  have h1 := (Shape.ReducesTo.drop_apply_val_of_eq reducesTo_S1x8192x8192_S1x8192_d2 p 1 1).symm.trans (congrArg Fin.val (congrFun h 1))
  funext b
  fin_cases b
  · exact Subsingleton.elim (α := Fin 1) _ _
  · exact Fin.ext h1
  · rfl

/-- The reduction of a row by the maximum, from minus infinity. -/
theorem reduced_at (e : FVec Ideal S1x8192x8192 .f32) (i : Fin 8192) :
    (reduced e (ix2 0 i) : EReal) = (Finset.univ : Finset (Fin 8192)).fold max ⊥ fun j => (e (ix3 0 i j) : EReal) := by
  unfold reduced
  rw [Host.reduce_eq_fold]
  simp only [Ideal.maximumf_eq_max]
  rw [show (constant S_ .f32 0xFF800000#32 : FVec Ideal S_ .f32) (Shape.Idx.first h_S_) = (⊥ : EReal) from minus_infinity]
  refine le_antisymm ?_ ?_
  · refine (Finset.fold_max_le _).2 ⟨bot_le, fun p hp => ?_⟩
    have hp := eq_of_drop_row i p (Finset.mem_filter.1 hp).2
    exact (Finset.le_fold_max _).2 (Or.inr ⟨p 2, Finset.mem_univ _, le_of_eq (congrArg e hp)⟩)
  · refine (Finset.fold_max_le _).2 ⟨bot_le, fun j _ => ?_⟩
    exact (Finset.le_fold_max _).2 (Or.inr ⟨ix3 0 i j, Finset.mem_filter.2 ⟨Finset.mem_univ _, drop_row i j⟩, le_rfl⟩)

/-- The greatest of a row, of its reduction. -/
theorem tops_at (r : FVec Ideal S1x8192 .f32) (i : Fin 8192) : (tops r (ix2 0 i) : EReal) = max ⊥ (r (ix2 0 i) : EReal) := by
  rw [← minus_infinity]
  pointwise [tops]

/-- An entry of the exponentials. -/
theorem expos_at (e : FVec Ideal S1x8192x8192 .f32) (t : FVec Ideal S1x8192 .f32) (i j : Fin 8192) :
    (expos e t (ix3 0 i j) : EReal) = Ideal.exp (e (ix3 0 i j) - t (ix2 0 i)) := by
  pointwise [expos]

/-- An entry of the softmax. -/
theorem softmax_at (p : FVec Ideal S1x8192x8192 .f32) (i j : Fin 8192) :
    (softmax p (ix3 0 i j) : EReal) = Ideal.div (p (ix3 0 i j)) (∑ l : Fin 8192, (p (ix3 0 i l) : EReal)) := by
  pointwise [softmax]

/-- An entry of the result. -/
theorem averages_at (p : FVec Ideal S1x8192x8192 .f32) (h : FVec Ideal S1x8192x128 .f32) (i : Fin 8192) (k : Fin 128) :
    (averages p h (ix2 i k) : EReal) = max (∑ j : Fin 8192, (p (ix3 0 i j) : EReal) * (h (ix3 0 j k) : EReal)) 0 := by
  pointwise [averages]

variable (m : (ℓ : Loc nD τ sig) → Buf (Elt Ideal) ℓ)

/-- The reference's result is its stages one after the other. -/
theorem reference_stages (c : Dev nD) : res_out0 m c
    = (let h := features (m ((c : Thread nD τ).loc main_arg0)) (m ((c : Thread nD τ).loc main_arg3))
       let e := scores (sums h (m ((c : Thread nD τ).loc main_arg4))) (m ((c : Thread nD τ).loc main_arg1))
       averages (softmax (expos e (tops (reduced e)))) h) := by
  unfold res_out0 res_main_v31
  rfl

section Stages

variable (x : FVec Ideal S8192x128 .f32) (w : FVec Ideal S128x128 .f32) (a : FVec Ideal S256x1 .f32) (adj : FVec Ideal S8192x8192 .f32)

/-- The masked scores of the arguments. -/
theorem score_value (i j : Fin 8192) : (scores (sums (features x w) a) adj (ix3 0 i j) : EReal) = Gat.score x w a adj i j := by
  rw [scores_at, sums_at]
  simp only [features_at]
  rfl

/-- The greatest score of a row of the arguments. -/
theorem top_value (i : Fin 8192) : (tops (reduced (scores (sums (features x w) a) adj)) (ix2 0 i) : EReal) = Gat.top x w a adj i := by
  rw [tops_at, reduced_at]
  simp only [score_value]
  rfl

/-- The softmax's numerator of the arguments. -/
theorem expo_value (i j : Fin 8192) :
    (expos (scores (sums (features x w) a) adj) (tops (reduced (scores (sums (features x w) a) adj))) (ix3 0 i j) : EReal) = Gat.expo x w a adj i j := by
  rw [expos_at, score_value, top_value]
  rfl

/-- The result of the arguments. -/
theorem average_value (i : Fin 8192) (k : Fin 128) :
    (averages (softmax (expos (scores (sums (features x w) a) adj) (tops (reduced (scores (sums (features x w) a) adj))))) (features x w) (ix2 i k) : EReal)
      = Gat.refOut x w a adj i k := by
  rw [averages_at]
  simp only [softmax_at, expo_value, features_at]
  rfl

end Stages

/-- The reference's result, element by element, of the argument arrays. -/
theorem reference_value (c : Dev nD) : res_out0 m c = fun i : S8192x128.Idx =>
    Gat.refOut (m ((c : Thread nD τ).loc main_arg0)) (m ((c : Thread nD τ).loc main_arg3)) (m ((c : Thread nD τ).loc main_arg4))
      (m ((c : Thread nD τ).loc main_arg1)) (i 0) (i 1) :=
  (reference_stages m c).trans (funext fun i => by
    rw [show i = ix2 (i 0) (i 1) from funext fun b => by fin_cases b <;> rfl]
    exact average_value _ _ _ _ (i 0) (i 1))

end Cert.ReferenceIdeal.Value

end
-- ==== Proof.Reals.lean ====
/- That the kernel's result and the reference's agree, in mathematics: with finite features, weights and attention vector and
   with an edge in every row, both are the average of the features by the weights `exp (leak (s i + d j))`. -/
module

public import proofs.«01_k».proof.Proof.Feature

@[expose] public section

noncomputable section

namespace Cert.Gat

open Idealize.ShloMosaic

/-- The slope is a real strictly between zero and one. -/
theorem slope_real : ∃ α : ℝ, slope = (α : EReal) ∧ 0 < α ∧ α < 1 := by
  unfold slope
  refine ⟨13421773 * (2 ^ 26)⁻¹, ?_, by norm_num, by norm_num⟩
  simp [Ideal.ofBits, Ideal.ieee, -EReal.coe_mul]

/-- A finite sum of reals, in the extended reals. -/
theorem coe_sum {n : ℕ} (f : Fin n → ℝ) : ((∑ i, f i : ℝ) : EReal) = ∑ i, (f i : EReal) := by
  induction (Finset.univ : Finset (Fin n)) using Finset.induction_on with
  | empty => simp
  | insert a s ha ih => rw [Finset.sum_insert ha, Finset.sum_insert ha, EReal.coe_add, ih]

/-- The maximum of reals and of minus infinity is a real, when one of them is a real. -/
theorem fold_max_real {n : ℕ} (f : Fin n → EReal) (hf : ∀ j, f j ≠ ⊤) (j : Fin n) (hj : f j ≠ ⊥) :
    ∃ r : ℝ, (Finset.univ : Finset (Fin n)).fold max ⊥ f = (r : EReal) := by
  have h1 : f j ≤ (Finset.univ : Finset (Fin n)).fold max ⊥ f := (Finset.le_fold_max (f j)).2 (Or.inr ⟨j, Finset.mem_univ j, le_rfl⟩)
  have h2 : (Finset.univ : Finset (Fin n)).fold max ⊥ f < ⊤ :=
    (Finset.fold_max_lt ⊤).2 ⟨bot_lt_top, fun k _ => lt_top_iff_ne_top.2 (hf k)⟩
  have h3 : (Finset.univ : Finset (Fin n)).fold max ⊥ f ≠ ⊥ := fun h => hj (le_bot_iff.1 (h ▸ h1))
  exact ⟨_, (EReal.coe_toReal h2.ne h3).symm⟩

/-- A power of two of a score over the logarithm of two is the score's exponential. -/
theorem exp2_over_log (s : ℝ) : Ideal.exp2 ((s : EReal) * (((Real.log 2)⁻¹ : ℝ) : EReal)) = ((Real.exp s : ℝ) : EReal) := by
  rw [← EReal.coe_mul, Ideal.exp2_coe]
  have h2 : Real.log 2 ≠ 0 := (Real.log_pos (by norm_num)).ne'
  show ((Real.rpow 2 _ : ℝ) : EReal) = _
  rw [show Real.rpow 2 (s * (Real.log 2)⁻¹) = (2 : ℝ) ^ (s * (Real.log 2)⁻¹) from rfl,
    Real.rpow_def_of_pos (by norm_num)]
  congr 2
  field_simp

/-- The leaky score over the reals. -/
def leakR (α t : ℝ) : ℝ := if 0 ≤ t then t else α * t

/-- The leaky score of a real is a real. -/
theorem leak_coe {α : ℝ} (hα : slope = (α : EReal)) (t : ℝ) : leak (t : EReal) = ((leakR α t : ℝ) : EReal) := by
  unfold leak leakR
  rw [hα, ← EReal.coe_mul]
  by_cases h : 0 ≤ t
  · rw [if_pos h, if_pos (by exact_mod_cast h)]
  · rw [if_neg h, if_neg (by exact_mod_cast h)]

/-- The greater of the exponential of a score and of the slope times it is the exponential of the leaky score. -/
theorem max_exp {α : ℝ} (h0 : 0 < α) (h1 : α < 1) (t : ℝ) : max (Real.exp t) (Real.exp (α * t)) = Real.exp (leakR α t) := by
  unfold leakR
  by_cases h : 0 ≤ t
  · rw [if_pos h, max_eq_left (Real.exp_le_exp.2 (by nlinarith))]
  · rw [if_neg h, max_eq_right (Real.exp_le_exp.2 (by nlinarith))]

/-- The kernel's two products of powers of two: their maximum is the exponential of the leaky sum of the scores. -/
theorem max_products {α : ℝ} (hα : slope = (α : EReal)) (h0 : 0 < α) (h1 : α < 1) (s d : ℝ) :
    max (Ideal.exp2 ((s : EReal) * (((Real.log 2)⁻¹ : ℝ) : EReal)) * Ideal.exp2 ((d : EReal) * (((Real.log 2)⁻¹ : ℝ) : EReal)))
      (Ideal.exp2 (slope * ((s : EReal) * (((Real.log 2)⁻¹ : ℝ) : EReal))) * Ideal.exp2 (slope * ((d : EReal) * (((Real.log 2)⁻¹ : ℝ) : EReal))))
      = ((Real.exp (leakR α (s + d)) : ℝ) : EReal) := by
  rw [← mul_assoc, ← mul_assoc, hα, ← EReal.coe_mul α s, ← EReal.coe_mul α d]
  simp only [exp2_over_log]
  rw [← EReal.coe_mul, ← EReal.coe_mul, ← Real.exp_add, ← Real.exp_add, ← mul_add, ← max_exp h0 h1]
  exact (EReal.coe_strictMono.monotone.map_max).symm

/-- The average by the weights and the average by the softmax: a factor common to a row's weights leaves the average as it is. -/
theorem average_eq {n : ℕ} (e h : Fin n → ℝ) (u : Fin n → ℝ) (M : ℝ) (hu : ∀ j, u j = e j * Real.exp (-M)) (hS : 0 < ∑ j, e j) :
    Ideal.div (∑ j, ((e j : ℝ) : EReal) * (h j : EReal)) (∑ j, ((e j : ℝ) : EReal) * 1)
      = ∑ j, Ideal.div ((u j : ℝ) : EReal) (∑ l, ((u l : ℝ) : EReal)) * (h j : EReal) := by
  have hM := Real.exp_pos (-M)
  have hU : ∑ l, u l = (∑ l, e l) * Real.exp (-M) := by rw [Finset.sum_mul]; exact Finset.sum_congr rfl fun l _ => hu l
  have hU0 : ∑ l, u l ≠ 0 := by rw [hU]; positivity
  simp only [mul_one, ← EReal.coe_mul, ← coe_sum, Ideal.div_coe hU0, Ideal.div_coe hS.ne']
  norm_cast
  rw [Finset.sum_mul]
  refine Finset.sum_congr rfl fun j _ => ?_
  rw [hU, hu j]
  field_simp

variable {x : FVec Ideal SX .f32} {w : FVec Ideal SW .f32} {a : FVec Ideal SV .f32} {adj : FVec Ideal SA .f32}

/-- Under finite arguments and an edge in every row, the kernel's result is the reference's. -/
theorem kernelOut_eq_refOut (hx : ∀ i, ∃ r : ℝ, (x i : EReal) = (r : EReal)) (hw : ∀ i, ∃ r : ℝ, (w i : EReal) = (r : EReal))
    (ha : ∀ i, ∃ r : ℝ, (a i : EReal) = (r : EReal)) (hadj : ∀ i : Fin 8192, ∃ j : Fin 8192, (0 : EReal) < adj (ix2 i j))
    (i : Fin 8192) (k : Fin 128) : kernelOut x w a adj i k = refOut x w a adj i k := by
  choose xr hx using hx
  choose wr hw using hw
  choose ar ha using ha
  obtain ⟨α, hα, h0, h1⟩ := slope_real
  have hp : ∀ j q, proj x w j q = ((∑ t : Fin 128, xr (ix2 j t) * wr (ix2 t q) : ℝ) : EReal) := fun j q => by
    unfold proj; simp only [hx, hw, coe_sum, EReal.coe_mul]
  obtain ⟨pr, hp⟩ : ∃ pr : Fin 8192 → Fin 128 → ℝ, ∀ j q, proj x w j q = (pr j q : EReal) := ⟨_, hp⟩
  obtain ⟨s, hs⟩ : ∃ s : Fin 8192 → ℝ, ∀ j, src x w a j = (s j : EReal) :=
    ⟨fun j => ∑ q : Fin 128, pr j q * ar (ix2 ⟨q.val, by omega⟩ 0), fun j => by
      unfold src; simp only [hp, ha, coe_sum, EReal.coe_mul]⟩
  obtain ⟨d, hd⟩ : ∃ d : Fin 8192 → ℝ, ∀ j, dst x w a j = (d j : EReal) :=
    ⟨fun j => ∑ q : Fin 128, pr j q * ar (ix2 ⟨128 + q.val, by omega⟩ 0), fun j => by
      unfold dst; simp only [hp, ha, coe_sum, EReal.coe_mul]⟩
  classical
  have hk : ∀ j, kernelWeight x w a adj i j
      = ((if (0 : EReal) < adj (ix2 i j) then Real.exp (leakR α (s i + d j)) else 0 : ℝ) : EReal) := fun j => by
    unfold kernelWeight
    split
    · rw [hs, hd, max_products hα h0 h1]
    · rfl
  have hsc : ∀ j, score x w a adj i j = if (0 : EReal) < adj (ix2 i j) then ((leakR α (s i + d j) : ℝ) : EReal) else ⊥ := fun j => by
    unfold score
    rw [hs, hd, ← EReal.coe_add, leak_coe hα]
  obtain ⟨j0, hj0⟩ := hadj i
  obtain ⟨M, hM⟩ : ∃ M : ℝ, top x w a adj i = (M : EReal) := by
    unfold top
    rw [max_eq_right bot_le]
    refine fold_max_real _ (fun j => ?_) j0 ?_
    · rw [hsc]; split
      · exact EReal.coe_ne_top _
      · exact bot_ne_top
    · rw [hsc, if_pos hj0]; exact EReal.coe_ne_bot _
  have he : ∀ j, expo x w a adj i j
      = (((if (0 : EReal) < adj (ix2 i j) then Real.exp (leakR α (s i + d j)) else 0) * Real.exp (-M) : ℝ) : EReal) := fun j => by
    unfold expo
    rw [hM, hsc]
    split
    · rw [← EReal.coe_sub, Ideal.exp_coe, sub_eq_add_neg, Real.exp_add]
    · rw [EReal.bot_sub, Ideal.exp_bot]; simp
  unfold kernelOut refOut
  simp only [hk, he, hp]
  refine congrArg (max · 0) (average_eq _ _ _ M (fun j => rfl) ?_)
  refine Finset.sum_pos' (fun j _ => ?_) ⟨j0, Finset.mem_univ _, ?_⟩
  · split
    · exact (Real.exp_pos _).le
    · exact le_rfl
  · rw [if_pos hj0]; exact Real.exp_pos _

end Cert.Gat

end
-- ==== Proof.Pre.lean ====
/- The precondition read back: what the printed predicate says of the argument arrays. -/
module

public import proofs.«01_k».proof.Proof.Feature
public import proofs.«01_k».proof.Pre_finite_and_connected
public import Idealize.ShloMosaic.Lib.ReduceAll

@[expose] public section

set_option maxRecDepth 16384

noncomputable section

namespace Cert.Gat

open Idealize.ShloMosaic Cert.Pre_finite_and_connected Cert.Pre_finite_and_connected.Facts

/-- A left fold by `or` over one-bit words that came out one started at one or met a one. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | b :: l, init, h => by
    rcases foldl_ori_eq_one f l _ h with h | ⟨n, hn, h⟩
    · have key : ∀ p q : BitVec 1, IntOp.ori p q = 1#1 → p = 1#1 ∨ q = 1#1 := by decide
      rcases key _ _ h with h | h
      · exact Or.inl h
      · exact Or.inr ⟨b, List.mem_cons_self .., h⟩
    · exact Or.inr ⟨n, List.mem_cons_of_mem _ hn, h⟩

/-- A reduction by `or` from zero that is one at `j` met a one at an index that reduces into `j`. -/
theorem reduce_ori_eq_one {s t u : Shape} {axes : List (Fin s.rank)} (x : s.Idx → BitVec 1) (init : u.Idx → BitVec 1)
    (h : s.ReducesTo axes t) (hu : 0 < u.numel) (hi : init (Shape.Idx.first hu) = 0#1) (j : t.Idx)
    (e : Host.reduce IntOp.ori x init h hu j = 1#1) : ∃ i, h.drop i = j ∧ x i = 1#1 := by
  rw [Host.reduce_eq_foldl, hi] at e
  rcases foldl_ori_eq_one x _ _ e with e | ⟨i, hm, e⟩
  · exact absurd e (by decide)
  · rw [List.mem_filter] at hm
    exact ⟨i, by simpa using hm.2, e⟩

/-- An extended real whose absolute value compares below infinity is a real. -/
theorem real_of_abs_lt {y : EReal} (h : Ideal.cmp .olt (max y (-y)) (Ideal.ofBits .f32 0x7F800000#32) = 1#1) : ∃ r : ℝ, y = (r : EReal) := by
  have ht : Ideal.ofBits .f32 0x7F800000#32 = ⊤ := by simp [Ideal.ofBits, Ideal.ieee]
  rw [ht] at h
  have hlt : max y (-y) < ⊤ := by
    by_contra hn
    simp [Ideal.cmp, hn] at h
  induction y with
  | bot => simp at hlt
  | top => simp at hlt
  | coe r => exact ⟨r, rfl⟩

/-- An extended real that compares above zero is positive. -/
theorem pos_of_gt {y : EReal} (h : Ideal.cmp .ogt y (Ideal.ofBits .f32 0x00000000#32) = 1#1) : 0 < y := by
  have hz : Ideal.ofBits .f32 0x00000000#32 = 0 := by simp [Ideal.ofBits, Ideal.ieee]
  rw [hz] at h
  by_contra hn
  simp [Ideal.cmp, hn] at h

variable [Cert.Pre_finite_and_connected.Facts]

/-- An index of the adjacency matrix that reduces to row `i` lies in row `i`. -/
theorem row_of_drop (i : Fin 8192) (q : S8192x8192.Idx) (h : reducesTo_S8192x8192_S8192_d1.drop q = ix1 i) : q = ix2 i (q 1) := by
  have h1 := congrArg Fin.val (congrFun h 0)
  rw [Shape.ReducesTo.drop_apply_val_of_eq _ _ _ 0] at h1
  funext b
  fin_cases b
  · exact Fin.ext h1
  · rfl

/-- The precondition says that the features, the weights and the attention vector are real everywhere, and that every row of
    the adjacency matrix has a positive entry. -/
theorem pre_read (x : FVec Ideal S8192x128 .f32) (adj : FVec Ideal S8192x8192 .f32) (t : FVec Ideal S8192 .f32)
    (w : FVec Ideal S128x128 .f32) (a : FVec Ideal S256x1 .f32) (h : fn (F := Ideal) x adj t w a = fun _ => 1#1) :
    (∀ i, ∃ r : ℝ, (x i : EReal) = (r : EReal)) ∧ (∀ i, ∃ r : ℝ, (w i : EReal) = (r : EReal)) ∧
      (∀ i, ∃ r : ℝ, (a i : EReal) = (r : EReal)) ∧ ∀ i : Fin 8192, ∃ j : Fin 8192, (0 : EReal) < adj (ix2 i j) := by
  haveI : Subsingleton S_.Idx := ⟨fun p q => funext fun k => k.elim0⟩
  have hpt : ∀ i : Fin 8192, fn (F := Ideal) x adj t w a (ix1 i) = 1#1 := fun i => by rw [h]
  simp only [fn, fn_part1] at hpt
  have h0 := IntOp.andi_eq_one.1 (IntOp.andi_eq_one.1 (hpt 0)).1
  have h1 := IntOp.andi_eq_one.1 h0.1
  refine ⟨fun p => ?_, fun p => ?_, fun p => ?_, fun i => ?_⟩
  · exact real_of_abs_lt (Host.reduce_andi_all _ _ _ _ _ h1.1 p)
  · exact real_of_abs_lt (Host.reduce_andi_all _ _ _ _ _ h1.2 p)
  · exact real_of_abs_lt (Host.reduce_andi_all _ _ _ _ _ h0.2 p)
  · obtain ⟨q, hq, e⟩ := reduce_ori_eq_one _ _ _ _ rfl _ (IntOp.andi_eq_one.1 (hpt i)).2
    have hp := pos_of_gt e
    rw [row_of_drop i q hq] at hp
    exact ⟨q 1, hp⟩

end Cert.Gat

end
-- ==== Proof.Agree.lean ====
/- The kernel and the reference at the idealized arithmetic: under the precondition they leave the same array. -/
module

public import proofs.«01_k».proof.Defs
public import proofs.«01_k».proof.Proof.Run
public import proofs.«01_k».proof.Proof.KernelValue
public import proofs.«01_k».proof.Proof.RefValue
public import proofs.«01_k».proof.Proof.Reals
public import proofs.«01_k».proof.Proof.Pre
public import proofs.«01_k».proof.Proof.Gen.Pre_finite_and_connected
public import Idealize.ShloMosaic.Lib.Quiescent

@[expose] public section

set_option maxRecDepth 16384

noncomputable section

namespace Cert.Proof

open Idealize.ShloMosaic Idealize.ShloMosaic.TcCoe Idealize.SL.Sem

/-- The reference leaves its arguments unchanged and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
        ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4))
      ∧ r.2.sem = fun _ => 0) :=
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m g)

/-- Under the precondition the kernel's result array is, at every index, the reference's. -/
theorem results_agree : Cert.algebraic_KernelIdeal_ReferenceIdeal_pre_finite_and_connected := by
  intro m ρ m' ρ' hpre hagree
  refine ⟨_, Cert.KernelIdeal.Value.run (F := Ideal) m ρ, ?_⟩
  refine (θ_run (Cert.ReferenceIdeal.defs (F := Ideal)) _ _).mono (fun _ h c => ⟨(h c).1.trans ?_, (h c).2⟩) (Cert.ReferenceIdeal.Value.run (F := Ideal) m' ρ')
  obtain ⟨e0, e1, -, e3, e4⟩ := hagree c
  obtain ⟨hx, hw, ha, hadj⟩ := Gat.pre_read _ _ _ _ _ (hpre c)
  rw [Cert.KernelIdeal.Value.kernel_value]
  refine (Cert.ReferenceIdeal.Value.reference_value m' c).trans ?_
  rw [e0, e1, e3, e4]
  exact funext fun i => (Gat.kernelOut_eq_refOut hx hw ha hadj (i 0) (i 1)).symm

end Cert.Proof

end
-- ==== Proof.lean ====
/- The certificate: the three frames, the named constant, and the agreement of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_connected
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything claimed: the kernel at the machine's arithmetic and at the idealized one, and the reference, each run to the
    end with their arguments unchanged and every semaphore at zero; the named constant is the inverse of the logarithm of two;
    and the idealized kernel and the reference leave the same result. -/
theorem claim : Cert.Claim :=
  ⟨Cert.Kernel.Gen.facts, Cert.KernelIdeal.Gen.facts, Cert.ReferenceIdeal.Gen.facts, Cert.Pre_finite_and_connected.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    IdealRules.named_const.statement Cert.KernelIdeal.κ "log2e" .f32 0x3FB8AA3B#32 _ rfl,
    results_agree⟩

end Cert.Proof

end
